-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_ascend [hPre_edges_ascend : Cert.Pre_edges_ascend.Facts] (m : (ℓ : Loc Cert.KernelIdeal.nD Cert.KernelIdeal.τ Cert.KernelIdeal.sig) → Buf (Elt Ideal) ℓ) : Prop :=
  ∀ c : Dev Cert.KernelIdeal.nD,
    (Cert.Pre_edges_ascend.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_ascend [hPre_edges_ascend : Cert.Pre_edges_ascend.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_ascend.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_edges_ascend [hKernelIdeal : Cert.KernelIdeal.Facts] [hPre_edges_ascend : Cert.Pre_edges_ascend.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_ascend m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_edges_ascend [hReferenceIdeal : Cert.ReferenceIdeal.Facts] [hPre_edges_ascend : Cert.Pre_edges_ascend.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_ascend m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_edges_ascend [hKernelIdeal : Cert.KernelIdeal.Facts] [hReferenceIdeal : Cert.ReferenceIdeal.Facts] [hPre_edges_ascend : Cert.Pre_edges_ascend.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_ascend m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_edges_ascend : Cert.Pre_edges_ascend.Facts),
    quiescent_Kernel (hKernel := hKernel)
    ∧ quiescent_KernelIdeal (hKernelIdeal := hKernelIdeal)
    ∧ quiescent_KernelIdeal_pre_edges_ascend (hKernelIdeal := hKernelIdeal) (hPre_edges_ascend := hPre_edges_ascend)
    ∧ quiescent_ReferenceIdeal (hReferenceIdeal := hReferenceIdeal)
    ∧ quiescent_ReferenceIdeal_pre_edges_ascend (hReferenceIdeal := hReferenceIdeal) (hPre_edges_ascend := hPre_edges_ascend)
    ∧ preserves_Kernel_KernelIdeal
    ∧ algebraic_KernelIdeal_ReferenceIdeal_pre_edges_ascend (hKernelIdeal := hKernelIdeal) (hReferenceIdeal := hReferenceIdeal) (hPre_edges_ascend := hPre_edges_ascend)
-- ==== Pre_edges_ascend.lean ====
abbrev S1x1024x1024 : Shape := ⟨3, ![1, 1024, 1024]⟩
abbrev S65 : Shape := ⟨1, ![65]⟩
abbrev S64 : Shape := ⟨1, ![64]⟩
abbrev S_ : Shape := ⟨0, ![]⟩

class Facts : Prop where
  slices_S65_S64_0 : S65.Slices ![0] S64
  slices_S65_S64_1 : S65.Slices ![1] S64
  reducesTo_S64_S_d0 : S64.ReducesTo [0] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S1x1024x1024 .f32) (main_arg1 : FVec F S65 .f32) : IVec S_ 1 :=
  let main_v0 : FVec F S64 .f32 := (extractStridedSlice S64 ![0] · slices_S65_S64_0) main_arg1
  let main_v1 : FVec F S64 .f32 := (extractStridedSlice S64 ![1] · slices_S65_S64_1) main_arg1
  let main_v2 : IVec S64 1 := cmpf .ole main_v0 main_v1
  let main_c : IVec S_ 1 := constantI S_ 1 1#1
  let main_v3 : IVec S_ 1 := (fun x v => Host.reduce IntOp.andi x v reducesTo_S64_S_d0 h_S_) main_v2 main_c
  let main_cst : FVec F S_ .f32 := constant S_ .f32 0xFF800000#32
  let main_v4 : FVec F S1x1024x1024 .f32 := broadcastInDim S1x1024x1024 ![] bcast_S_S1x1024x1024 main_cst
  let main_v5 : IVec S1x1024x1024 1 := cmpf .ogt main_arg0 main_v4
  let main_c_0 : IVec S_ 1 := constantI S_ 1 1#1
  let main_v6 : IVec S_ 1 := (fun x v => Host.reduce IntOp.andi x v reducesTo_S1x1024x1024_S_d0_1_2 h_S_) main_v5 main_c_0
  let main_v7 : IVec S_ 1 := andi main_v3 main_v6
  main_v7
-- ==== Kernel.lean ====
abbrev S1x1024x1024 : Shape := ⟨3, ![1, 1024, 1024]⟩
abbrev S65 : Shape := ⟨1, ![65]⟩
abbrev S524288x2 : Shape := ⟨2, ![524288, 2]⟩
abbrev S63 : Shape := ⟨1, ![63]⟩
abbrev S_ : Shape := ⟨0, ![]⟩
abbrev S1 : Shape := ⟨1, ![1]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S524288x128 : Shape := ⟨2, ![524288, 128]⟩
abbrev S8192x2 : Shape := ⟨2, ![8192, 2]⟩
abbrev S8192x128 : Shape := ⟨2, ![8192, 128]⟩
abbrev S8192x1 : Shape := ⟨2, ![8192, 1]⟩
abbrev S8192x64 : Shape := ⟨2, ![8192, 64]⟩
abbrev S1x1024x1024x64 : Shape := ⟨4, ![1, 1024, 1024, 64]⟩

abbrev nBuf : Space → Nat
  | .hbm => 20
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S65, .f32⟩
  | .hbm, ⟨2, _⟩ => ⟨S524288x2, .f32⟩
  | .hbm, ⟨3, _⟩ => ⟨S63, .f32⟩
  | .hbm, ⟨4, _⟩ => ⟨S_, .f32⟩
  | .hbm, ⟨5, _⟩ => ⟨S1, .f32⟩
  | .hbm, ⟨6, _⟩ => ⟨S64, .f32⟩
  | .hbm, ⟨7, _⟩ => ⟨S_, .f32⟩
  | .hbm, ⟨8, _⟩ => ⟨S1, .f32⟩
  | .hbm, ⟨9, _⟩ => ⟨S64, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x128, .f32⟩
  | .hbm, ⟨18, _⟩ => ⟨S524288x128, .f32⟩
  | .hbm, ⟨19, _⟩ => ⟨S1x1024x1024x64, .f32⟩
  | .local _ .vmem, ⟨0, _⟩ => ⟨S8192x2, .f32⟩
  | .local _ .vmem, ⟨1, _⟩ => ⟨S8192x2, .f32⟩
  | .local _ .vmem, ⟨2, _⟩ => ⟨S1x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x1024x1024 : Shape := ⟨3, ![1, 1024, 1024]⟩
abbrev S65 : Shape := ⟨1, ![65]⟩
abbrev S1x1024x1024x1 : Shape := ⟨4, ![1, 1024, 1024, 1]⟩
abbrev S1x1x1x65 : Shape := ⟨4, ![1, 1, 1, 65]⟩
abbrev S1x1024x1024x65 : Shape := ⟨4, ![1, 1024, 1024, 65]⟩
abbrev S_ : Shape := ⟨0, ![]⟩
abbrev S1x1x1x64 : Shape := ⟨4, ![1, 1, 1, 64]⟩
abbrev S1x1024x1024x64 : Shape := ⟨4, ![1, 1024, 1024, 64]⟩

abbrev nBuf : Space → Nat
  | .hbm => 27
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S65, .f32⟩
  | .hbm, ⟨2, _⟩ => ⟨S1x1024x1024x1, .f32⟩
  | .hbm, ⟨3, _⟩ => ⟨S1x1x1x65, .f32⟩
  | .hbm, ⟨4, _⟩ => ⟨S1x1024x1024x65, .f32⟩
  | .hbm, ⟨5, _⟩ => ⟨S1x1024x1024x65, .f32⟩
  | .hbm, ⟨6, _⟩ => ⟨S1x1024x1024x65, .i1⟩
  | .hbm, ⟨7, _⟩ => ⟨S1x1024x1024x65, .i32⟩
  | .hbm, ⟨8, _⟩ => ⟨S_, .i32⟩
  | .hbm, ⟨9, _⟩ => ⟨S1x1024x1024, .i32⟩
  | .hbm, ⟨10, _⟩ => ⟨S_, .i32⟩
  | .hbm, ⟨11, _⟩ => ⟨S1x1024x1024, .i32⟩
  | .hbm, ⟨12, _⟩ => ⟨S1x1024x1024, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1x1024x1024, .i32⟩
  | .hbm, ⟨17, _⟩ => ⟨S1x1024x1024, .i32⟩
  | .hbm, ⟨18, _⟩ => ⟨S_, .i32⟩
  | .hbm, ⟨19, _⟩ => ⟨S1x1024x1024, .i32⟩
  | .hbm, ⟨20, _⟩ => ⟨S1x1024x1024, .i32⟩
  | .hbm, ⟨21, _⟩ => ⟨S1x1024x1024x1, .i32⟩
  | .hbm, ⟨22, _⟩ => ⟨S1x1x1x64, .i32⟩
  | .hbm, ⟨23, _⟩ => ⟨S1x1024x1024x64, .i32⟩
  | .hbm, ⟨24, _⟩ => ⟨S1x1024x1024x64, .i32⟩
  | .hbm, ⟨25, _⟩ => ⟨S1x1024x1024x64, .i1⟩
  | .hbm, ⟨26, _⟩ => ⟨S1x1024x1024x64, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩

abbrev nD : Nat := 1
abbrev τ : Topo := Topo.v7x

variable {F : FTy → Type} [FloatOps F]
-- ==== Proof.Hit.lean ====
/-
  What one block of the kernel computes. The body is called with 8192 rows of two data each, with a row of 128 lower
  thresholds and with a row of 128 upper thresholds, and leaves 8192 rows of 128 numbers: lanes 0 … 63 of a row belong
  to the row's first datum, lanes 64 … 127 to its second, and a lane holds 1 when its datum lies above the lane's lower
  threshold and at or below its upper one, and 0 otherwise.
-/
module

public import proofs.«01_k».proof.Proof.Gen.KernelIdeal.Skeleton
public import Idealize.ShloMosaic.PureOps.Ideal
public import Idealize.ShloMosaic.Lib.Pipeline.Value
public import Idealize.ShloMosaic.Lib.ValueIdxCore
public import Idealize.ShloMosaic.Lib.WordArith

@[expose] public section

noncomputable section

namespace Cert.Hit

open Idealize.ShloMosaic Idealize.ShloMosaic.ValueIdx Cert.KernelIdeal Cert.KernelIdeal.Gen

/-- 1 when `x` lies above `lo` and at or below `hi`, 0 otherwise. -/
def hit (lo x hi : EReal) : EReal :=
  if lo < x ∧ x ≤ hi then 1 else 0

/-- The two comparisons of the kernel, joined, widened to a 32-bit word and converted to a float, are `hit`. -/
theorem hit_eq (lo x hi : EReal) :
    (FloatOps.sitofp (F := Ideal) .f32
      ((IntOp.andi (FloatOps.cmpf (F := Ideal) (φ := .f32) .ogt x lo)
        (FloatOps.cmpf (F := Ideal) (φ := .f32) .ole x hi)).setWidth 32) : EReal) = hit lo x hi := by
  have e : IntOp.andi (FloatOps.cmpf (F := Ideal) (φ := .f32) .ogt x lo)
      (FloatOps.cmpf (F := Ideal) (φ := .f32) .ole x hi) = BitVec.ofBool (decide (lo < x) && decide (x ≤ hi)) :=
    WordArith.andi_ofBool _ _
  have word (b : Bool) : (FloatOps.sitofp (F := Ideal) .f32 ((BitVec.ofBool b).setWidth 32) : EReal)
      = if b = true then 1 else 0 := by
    cases b
    · show ((((BitVec.ofBool false).setWidth 32).toInt : ℝ) : EReal) = _
      simp
    · show ((((BitVec.ofBool true).setWidth 32).toInt : ℝ) : EReal) = _
      simp
  rw [e, word, hit]
  simp only [Bool.and_eq_true, decide_eq_true_eq]

/-- The first column of the block's data, repeated along 64 lanes: each lane of a row holds the row's first datum. -/
theorem first_apply (x : FVec Ideal S8192x2 .f32) (r : Fin 8192) (l : Fin 64) :
    broadcastTo S8192x64 (shapeCast S8192x1 (extractStridedSlice S8192x1 ![0, 0]
        (shapeCast S8192x2 x shapeCasts_S8192x2_S8192x2) slices_S8192x2_o0_0_S8192x1) shapeCasts_S8192x1_S8192x1)
      broadcasts_S8192x1_S8192x64 (ix2 r l) = x (ix2 r 0) := by
  simp only [shapeCast_self]
  exact (broadcastTo_apply _ _ (ix2 r l) (ix2 r 0) (fun a => by fin_cases a <;> rfl)).trans
    (extractStridedSlice_apply _ x _ (ix2 r 0) (ix2 r 0) (fun a => by fin_cases a <;> simp))

/-- The second column likewise. -/
theorem second_apply (x : FVec Ideal S8192x2 .f32) (r : Fin 8192) (l : Fin 64) :
    broadcastTo S8192x64 (shapeCast S8192x1 (extractStridedSlice S8192x1 ![0, 1]
        (shapeCast S8192x2 x shapeCasts_S8192x2_S8192x2) slices_S8192x2_o0_1_S8192x1) shapeCasts_S8192x1_S8192x1)
      broadcasts_S8192x1_S8192x64 (ix2 r l) = x (ix2 r 1) := by
  simp only [shapeCast_self]
  exact (broadcastTo_apply _ _ (ix2 r l) (ix2 r 0) (fun a => by fin_cases a <;> rfl)).trans
    (extractStridedSlice_apply _ x _ (ix2 r 0) (ix2 r 1) (fun a => by fin_cases a <;> simp))

/-- The two repeated columns joined: lane `l` of a row holds the row's datum number `l / 64`. -/
theorem spread_apply (x : FVec Ideal S8192x2 .f32) (r : Fin 8192) (l : Fin 128) :
    concatenate S8192x128 1
        [⟨S8192x64, broadcastTo S8192x64 (shapeCast S8192x1 (extractStridedSlice S8192x1 ![0, 0]
        (shapeCast S8192x2 x shapeCasts_S8192x2_S8192x2) slices_S8192x2_o0_0_S8192x1) shapeCasts_S8192x1_S8192x1)
            broadcasts_S8192x1_S8192x64⟩,
          ⟨S8192x64, broadcastTo S8192x64 (shapeCast S8192x1 (extractStridedSlice S8192x1 ![0, 1]
        (shapeCast S8192x2 x shapeCasts_S8192x2_S8192x2) slices_S8192x2_o0_1_S8192x1) shapeCasts_S8192x1_S8192x1)
            broadcasts_S8192x1_S8192x64⟩]
        concatenates_S8192x64_S8192x64_S8192x128_d1 (ix2 r l)
      = x (ix2 r ⟨l.val / 64, by omega⟩) := by
  by_cases h : l.val < 64
  · have e : (0 : Fin 2) = ⟨l.val / 64, by omega⟩ := Fin.ext (by simp only [Fin.val_zero]; omega)
    refine (concatenate_pair_apply_left (s₁ := S8192x64) (s₂ := S8192x64) (t := S8192x128) 1 _ _ _ (ix2 r l) rfl
      (ix2 r (⟨l.val, h⟩ : Fin 64)) (fun b => by fin_cases b <;> rfl)).trans ?_
    exact (first_apply x r ⟨l.val, h⟩).trans (congrArg (fun k => x (ix2 r k)) e)
  · have e : (1 : Fin 2) = ⟨l.val / 64, by omega⟩ := Fin.ext (by simp only [Fin.val_one]; omega)
    refine (concatenate_pair_apply_right (s₁ := S8192x64) (s₂ := S8192x64) (t := S8192x128) 1 _ _ _ (ix2 r l) rfl rfl
      (ix2 r (⟨l.val - 64, by omega⟩ : Fin 64)) (fun b hb => by fin_cases b; exacts [rfl, absurd rfl hb])
      (by show l.val - 64 + 64 = l.val; omega)).trans ?_
    exact (second_apply x r ⟨l.val - 64, by omega⟩).trans (congrArg (fun k => x (ix2 r k)) e)

/-- A row of thresholds repeated down the block: every row holds the same 128 thresholds. -/
theorem rows_apply (y : FVec Ideal S1x128 .f32) (r : Fin 8192) (l : Fin 128) :
    broadcastTo S8192x128 y broadcasts_S1x128_S8192x128 (ix2 r l) = y (ix2 0 l) :=
  broadcastTo_apply _ _ (ix2 r l) (ix2 0 l) (fun a => by fin_cases a <;> rfl)

/-- What the body stores, at row `r` and lane `l` of the block. -/
theorem pay_apply (x : FVec Ideal S8192x2 .f32) (lo hi : FVec Ideal S1x128 .f32) (r : Fin 8192) (l : Fin 128) :
    (k0_pay1 (F := Ideal) x lo hi (ix2 r l) : EReal) = hit (lo (ix2 0 l)) (x (ix2 r ⟨l.val / 64, by omega⟩)) (hi (ix2 0 l)) := by
  refine Eq.trans ?_ (hit_eq _ _ _)
  rw [← spread_apply x r l, ← rows_apply lo r l, ← rows_apply hi r l]
  unfold k0_pay1
  simp only [shapeCast_self lo, shapeCast_self hi]
  rfl

end Cert.Hit

end
-- ==== Proof.Bins.lean ====
/-
  The mathematics of the bins, with no program in it. There are 65 edges `v 0 ≤ v 1 ≤ … ≤ v 64` in the extended reals and
  64 bins. A datum `x` is in bin `k` when it lies above the bin's lower threshold and at or below its upper one: the
  lower threshold of bin `k` is edge `k`, except that bin 0 reaches down to minus infinity, and the upper threshold is
  edge `k + 1`, except that bin 63 reaches up to plus infinity. The one theorem used outside this file, `between_iff`,
  says that for a datum other than minus infinity this is the same as counting: `x` is in bin `k` exactly when the number
  of edges below `x`, less one and clipped to 0 … 63, is `k`.
-/
module

public import Mathlib.Data.EReal.Basic
public import Mathlib.Data.Fintype.Card
public import Mathlib.Order.Fin.Basic
public import Mathlib.Order.Interval.Finset.Fin
public import Idealize.ShloMosaic.PureOps

@[expose] public section

noncomputable section

namespace Cert.Bins

open Idealize.ShloMosaic

/-- The threshold a datum of bin `k` lies above: edge `k`, or minus infinity for bin 0. -/
def lower (v : Fin 65 → EReal) (k : Fin 64) : EReal :=
  if k.val = 0 then ⊥ else v k.castSucc

/-- The threshold a datum of bin `k` does not exceed: edge `k + 1`, or plus infinity for bin 63. -/
def upper (v : Fin 65 → EReal) (k : Fin 64) : EReal :=
  if k.val = 63 then ⊤ else v k.succ

/-- How many edges lie below the datum. -/
def below (v : Fin 65 → EReal) (x : EReal) : ℕ :=
  (Finset.univ.filter fun i => v i < x).card

/-- No more edges lie below a datum than there are. -/
theorem below_le (v : Fin 65 → EReal) (x : EReal) : below v x ≤ 65 :=
  (Finset.card_filter_le _ _).trans (by simp)

/-- Among ascending edges the ones below the datum come first: edge `i` is one of them when its position is less than
    their number. -/
theorem edge_lt_iff {v : Fin 65 → EReal} (hv : Monotone v) (x : EReal) (i : Fin 65) : v i < x ↔ i.val < below v x := by
  constructor
  · intro h
    have hsub : Finset.Iic i ⊆ Finset.univ.filter fun j => v j < x := fun j hj => by
      rw [Finset.mem_filter]
      exact ⟨Finset.mem_univ j, (hv (Finset.mem_Iic.mp hj)).trans_lt h⟩
    have hc := Finset.card_le_card hsub
    rw [Fin.card_Iic] at hc
    exact hc
  · intro h
    by_contra hn
    have hsub : (Finset.univ.filter fun j => v j < x) ⊆ Finset.Iio i := fun j hj => by
      rw [Finset.mem_Iio]
      by_contra hj'
      exact hn ((hv (not_lt.mp hj')).trans_lt (Finset.mem_filter.mp hj).2)
    have hc := Finset.card_le_card hsub
    rw [Fin.card_Iio] at hc
    exact absurd h (not_lt.mpr hc)

/-- A datum other than minus infinity is above bin `k`'s lower threshold when the bin is the first or more than `k` edges
    lie below the datum. -/
theorem lower_lt_iff {v : Fin 65 → EReal} (hv : Monotone v) {x : EReal} (hx : x ≠ ⊥) (k : Fin 64) :
    lower v k < x ↔ k.val = 0 ∨ k.val < below v x := by
  unfold lower
  split_ifs with h
  · simp [h, bot_lt_iff_ne_bot, hx]
  · rw [edge_lt_iff hv]
    simp [h]

/-- A datum is at or below bin `k`'s upper threshold when the bin is the last or at most `k + 1` edges lie below it. -/
theorem le_upper_iff {v : Fin 65 → EReal} (hv : Monotone v) (x : EReal) (k : Fin 64) :
    x ≤ upper v k ↔ k.val = 63 ∨ below v x ≤ k.val + 1 := by
  unfold upper
  split_ifs with h
  · simp [h]
  · rw [← not_lt, edge_lt_iff hv, not_lt]
    simp [h]

/-- A datum other than minus infinity is between bin `k`'s thresholds exactly when the number of edges below it, less one
    and clipped to 0 … 63, is `k`. -/
theorem between_iff {v : Fin 65 → EReal} (hv : Monotone v) {x : EReal} (hx : x ≠ ⊥) (k : Fin 64) :
    (lower v k < x ∧ x ≤ upper v k) ↔ min 63 (below v x - 1) = k.val := by
  rw [lower_lt_iff hv hx, le_upper_iff hv]
  have := below_le v x
  have := k.isLt
  omega

/-- On 32-bit words, one taken off a count of at most 65 and the difference clipped to 0 … 63 is the word of the number
    so obtained. -/
theorem clip_word (c : ℕ) (hc : c ≤ 65) :
    IntOp.minsi 63#32 (IntOp.maxsi 0#32 (IntOp.subi (BitVec.ofNat 32 c) 1#32)) = BitVec.ofNat 32 (min 63 (c - 1)) :=
  (by decide : ∀ c < 66, IntOp.minsi 63#32 (IntOp.maxsi 0#32 (IntOp.subi (BitVec.ofNat 32 c) 1#32))
    = BitVec.ofNat 32 (min 63 (c - 1))) c (by omega)

/-- Two numbers below 64 have the same 32-bit word only if they are the same. -/
theorem word_eq_iff {a b : ℕ} (ha : a < 64) (hb : b < 64) : BitVec.ofNat 32 a = BitVec.ofNat 32 b ↔ a = b := by
  refine ⟨fun h => ?_, fun h => h ▸ rfl⟩
  have h' := congrArg BitVec.toNat h
  simp only [BitVec.toNat_ofNat] at h'
  omega

end Cert.Bins

end
-- ==== Proof.Thresholds.lean ====
/-
  What the host prepares for the kernel: the two rows of 128 thresholds, made of the 65 edges, and the data laid out two
  to a row. The interior edges 1 … 63, with minus infinity put before them or plus infinity put after them, are the 64
  lower or upper thresholds; each list is written twice, so that lane `l` of a row holds threshold `l` modulo 64.
-/
module

public import proofs.«01_k».proof.Proof.Bins
public import proofs.«01_k».proof.Proof.Gen.KernelIdeal
public import Idealize.ShloMosaic.PureOps.Ideal
public import Idealize.ShloMosaic.Lib.Pipeline.Value
public import Idealize.ShloMosaic.Lib.ValueIdxCore

@[expose] public section

noncomputable section

namespace Cert.Thresholds

open Idealize.ShloMosaic Idealize.ShloMosaic.ValueIdx Cert.KernelIdeal Cert.KernelIdeal.Gen

/-- The edges as a function of their position. -/
def edge (b : FVec Ideal S65 .f32) (i : Fin 65) : EReal := b (ix1 i)

/-- The pattern of minus infinity is minus infinity. -/
theorem neg_inf : (FloatOps.ofBits (F := Ideal) .f32 0xFF800000#32 : EReal) = ⊥ := by
  show Ideal.ofBits .f32 0xFF800000#32 = ⊥
  simp [Ideal.ofBits, Ideal.ieee]

/-- The pattern of plus infinity is plus infinity. -/
theorem pos_inf : (FloatOps.ofBits (F := Ideal) .f32 0x7F800000#32 : EReal) = ⊤ := by
  show Ideal.ofBits .f32 0x7F800000#32 = ⊤
  simp [Ideal.ofBits, Ideal.ieee]

/-- The interior edges: position `i` of the 63 holds edge `i + 1`. -/
theorem interior_apply (b : FVec Ideal S65 .f32) (i : Fin 63) :
    extractStridedSlice S63 ![1] b slices_S65_S63_1 (ix1 i) = edge b ⟨i.val + 1, by omega⟩ :=
  extractStridedSlice_apply _ b _ (ix1 i) (ix1 ⟨i.val + 1, by omega⟩) (fun a => by
    fin_cases a; show i.val + 1 = 1 + i.val; omega)

/-- The 64 lower thresholds: minus infinity, then the interior edges. -/
def lowerList (b : FVec Ideal S65 .f32) : FVec Ideal S64 .f32 :=
  concatenate S64 0 [⟨S1, broadcastInDim S1 ![] bcast_S_S1 (constant (F := Ideal) S_ .f32 0xFF800000#32)⟩,
    ⟨S63, extractStridedSlice S63 ![1] b slices_S65_S63_1⟩] concatenates_S1_S63_S64_d0

/-- The 64 upper thresholds: the interior edges, then plus infinity. -/
def upperList (b : FVec Ideal S65 .f32) : FVec Ideal S64 .f32 :=
  concatenate S64 0 [⟨S63, extractStridedSlice S63 ![1] b slices_S65_S63_1⟩,
    ⟨S1, broadcastInDim S1 ![] bcast_S_S1 (constant (F := Ideal) S_ .f32 0x7F800000#32)⟩] concatenates_S63_S1_S64_d0

/-- Entry `k` of the first list is bin `k`'s lower threshold. -/
theorem lowerList_apply (b : FVec Ideal S65 .f32) (k : Fin 64) : lowerList b (ix1 k) = Bins.lower (edge b) k := by
  unfold lowerList Bins.lower
  by_cases h : k.val = 0
  · rw [if_pos h]
    refine (concatenate_pair_apply_left (s₁ := S1) (s₂ := S63) (t := S64) 0 _ _ _ (ix1 k) rfl (ix1 (0 : Fin 1))
      (fun a => by fin_cases a; exact h.symm)).trans ?_
    exact (broadcastInDim_apply _ _ _ (ix1 (0 : Fin 1)) ix0 (fun a => a.elim0)).trans neg_inf
  · rw [if_neg h]
    refine (concatenate_pair_apply_right (s₁ := S1) (s₂ := S63) (t := S64) 0 _ _ _ (ix1 k) rfl rfl
      (ix1 (⟨k.val - 1, by omega⟩ : Fin 63)) (fun a ha => by fin_cases a; exact absurd rfl ha)
      (by show k.val - 1 + 1 = k.val; omega)).trans ?_
    refine (interior_apply b _).trans (congrArg (edge b) (Fin.ext ?_))
    show k.val - 1 + 1 = k.val
    omega

/-- Entry `k` of the second list is bin `k`'s upper threshold. -/
theorem upperList_apply (b : FVec Ideal S65 .f32) (k : Fin 64) : upperList b (ix1 k) = Bins.upper (edge b) k := by
  unfold upperList Bins.upper
  by_cases h : k.val = 63
  · rw [if_pos h]
    refine (concatenate_pair_apply_right (s₁ := S63) (s₂ := S1) (t := S64) 0 _ _ _ (ix1 k) rfl rfl
      (ix1 (0 : Fin 1)) (fun a ha => by fin_cases a; exact absurd rfl ha)
      (by show 0 + 63 = k.val; omega)).trans ?_
    exact (broadcastInDim_apply _ _ _ (ix1 (0 : Fin 1)) ix0 (fun a => a.elim0)).trans pos_inf
  · rw [if_neg h]
    refine (concatenate_pair_apply_left (s₁ := S63) (s₂ := S1) (t := S64) 0 _ _ _ (ix1 k) rfl
      (ix1 (⟨k.val, by omega⟩ : Fin 63)) (fun a => by fin_cases a; rfl)).trans ?_
    exact interior_apply b _

/-- A list of 64 thresholds written twice along one row of 128 lanes. -/
def twice (w : FVec Ideal S64 .f32) : FVec Ideal S1x128 .f32 :=
  shapeCast S1x128 (shapeCast S128 (broadcastInDim S2x64 ![0, 1] bcast_S1x64_S2x64_0_1
    (shapeCast S1x64 w shapeCasts_S64_S1x64)) shapeCasts_S2x64_S128) shapeCasts_S128_S1x128

/-- Lane `l` of that row holds entry `l` modulo 64 of the list. -/
theorem twice_apply (w : FVec Ideal S64 .f32) (l : Fin 128) :
    twice w (ix2 0 l) = w (ix1 ⟨l.val % 64, by omega⟩) := by
  unfold twice
  refine (shapeCast_apply _ _ (ix2 (0 : Fin 1) l) (ix1 l) ?_).trans ?_
  · rw [Shape.rowMajor_val_one, Shape.rowMajor_val_two]
    show l.val = 0 * 128 + l.val
    omega
  refine (shapeCast_apply _ _ (ix1 l) (ix2 (⟨l.val / 64, by omega⟩ : Fin 2) (⟨l.val % 64, by omega⟩ : Fin 64)) ?_).trans ?_
  · rw [Shape.rowMajor_val_one, Shape.rowMajor_val_two]
    show l.val / 64 * 64 + l.val % 64 = l.val
    omega
  refine (broadcastInDim_apply _ _ _ (ix2 (⟨l.val / 64, by omega⟩ : Fin 2) (⟨l.val % 64, by omega⟩ : Fin 64))
    (ix2 (0 : Fin 1) (⟨l.val % 64, by omega⟩ : Fin 64)) (fun a => by fin_cases a <;> rfl)).trans ?_
  refine shapeCast_apply _ _ (ix2 (0 : Fin 1) (⟨l.val % 64, by omega⟩ : Fin 64)) (ix1 ⟨l.val % 64, by omega⟩) ?_
  rw [Shape.rowMajor_val_one, Shape.rowMajor_val_two]
  show l.val % 64 = 0 * 64 + l.val % 64
  omega

/-- The data laid out two to a row: entry `h` of row `r` is the datum number `2 r + h` in reading order. -/
theorem pairs_apply (x : FVec Ideal S1x1024x1024 .f32) (r : Fin 524288) (h : Fin 2) (a b : Fin 1024)
    (e : r.val * 2 + h.val = a.val * 1024 + b.val) :
    shapeCast S524288x2 x shapeCasts_S1x1024x1024_S524288x2 (ix2 r h) = x (ix3 0 a b) := by
  refine shapeCast_apply _ _ (ix2 r h) (ix3 0 a b) ?_
  rw [Shape.rowMajor_val_two, Shape.rowMajor_val_three]
  show (0 * 1024 + a.val) * 1024 + b.val = r.val * 2 + h.val
  omega

/-- The kernel's rows of 128 numbers laid out one bin to a number: datum `(a, b)`'s number for bin `k` is lane `l` of row
    `r`, where `128 r + l` is the number's position in reading order. -/
theorem unroll_apply (y : FVec Ideal S524288x128 .f32) (i : S1x1024x1024x64.Idx) (r : Fin 524288) (l : Fin 128)
    (e : r.val * 128 + l.val = ((i 1).val * 1024 + (i 2).val) * 64 + (i 3).val) :
    shapeCast S1x1024x1024x64 y shapeCasts_S524288x128_S1x1024x1024x64 i = y (ix2 r l) := by
  refine shapeCast_apply _ _ i (ix2 r l) ?_
  rw [Shape.rowMajor_val_two, Shape.rowMajor_val_four]
  have h0 : (i 0).val < 1 := (i 0).isLt
  show r.val * 128 + l.val = (((i 0).val * 1024 + (i 1).val) * 1024 + (i 2).val) * 64 + (i 3).val
  omega

end Cert.Thresholds

end
-- ==== Proof.Array.lean ====
/-
  What the kernel's arrays hold. Point `t` of the grid works on rows `8192 t` … `8192 t + 8191` of the data and of the
  result, and on the same two rows of thresholds; the 64 points fill the result array. After the reshape that follows,
  the number of datum `(a, b)` for bin `k` is 1 when the datum lies between bin `k`'s thresholds and 0 otherwise.
-/
module

public import proofs.«01_k».proof.Proof.Hit
public import proofs.«01_k».proof.Proof.Thresholds
public import proofs.«01_k».proof.Proof.Gen.KernelIdeal.Frame
public import Idealize.ShloMosaic.Lib.Pipeline.ValueKit

@[expose] public section

noncomputable section

namespace Cert.Array

open Idealize.ShloMosaic hiding ix1 ix2 ix3 ix4
open Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The data, as the machine holds them at the start. -/
abbrev data (c : Dev nD) : FVec Ideal S1x1024x1024 .f32 := m ((c : Thread nD τ).loc main_arg0)

/-- The edges, as the machine holds them at the start. -/
abbrev edges (c : Dev nD) : FVec Ideal S65 .f32 := m ((c : Thread nD τ).loc main_arg1)

/-- The kernel's first operand is the data, two to a row. -/
theorem entry_data (c : Dev nD) :
    V m c main_v0 = shapeCast S524288x2 (data m c) shapeCasts_S1x1024x1024_S524288x2 := by
  simp only [V, V0, hostOps0, List.flatten_cons, List.flatten_nil, List.append_nil]
  after_results
  rfl

/-- Its second operand is the row of lower thresholds. -/
theorem entry_lower (c : Dev nD) : V m c main_v9 = Thresholds.twice (Thresholds.lowerList (edges m c)) := by
  simp only [V, V0, hostOps0, List.flatten_cons, List.flatten_nil, List.append_nil]
  after_results
  rfl

/-- Its third operand is the row of upper thresholds. -/
theorem entry_upper (c : Dev nD) : V m c main_v13 = Thresholds.twice (Thresholds.upperList (edges m c)) := by
  simp only [V, V0, hostOps0, List.flatten_cons, List.flatten_nil, List.append_nil]
  after_results
  rfl

/-- The kernel's result array: row `r`, lane `l` tells whether datum number `l / 64` of row `r` lies between the
    thresholds of bin `l` modulo 64. -/
def rows (c : Dev nD) : FVec Ideal S524288x128 .f32 := fun i =>
  Hit.hit (V m c main_v9 (ix2 0 (i 1)))
    (V m c main_v0 (ix2 (i 0) ⟨(i 1).val / 64, by have : (i 1).val < 128 := (i 1).isLt; omega⟩))
    (V m c main_v13 (ix2 0 (i 1)))

/-- The four windows' block indices at a point. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)

/-- The data's block at point `t`: rows `8192 t` on. -/
theorem block_data (c : Dev nD) (t : Fin cfg0.N) (r : Fin 8192) (d : Fin 2) (q : Fin 524288) (hq : q.val = t.val * 8192 + r.val) :
    iblk m c 0 t (ix2 r d) = V m c main_v0 (ix2 q d) := by
  blk_simp [iblk]
  congr 1
  funext a
  apply Fin.ext
  fin_cases a
  · blk_simp [index0 t]
    exact hq.symm
  · blk_simp [index0 t]

/-- The lower thresholds' block at any point is the whole row. -/
theorem block_lower (c : Dev nD) (t : Fin cfg0.N) : iblk m c 1 t = V m c main_v9 := by
  blk_ext! [iblk, index1 t]

/-- The upper thresholds' block at any point is the whole row. -/
theorem block_upper (c : Dev nD) (t : Fin cfg0.N) : iblk m c 2 t = V m c main_v13 := by
  blk_ext! [iblk, index2 t]

/-- What the body computes at point `t`, row `r` and lane `l` of its block, is row `8192 t + r` of the array. -/
theorem point (c : Dev nD) (t : Fin cfg0.N) (r : Fin 8192) (l : Fin 128) (q : Fin 524288)
    (hq : q.val = t.val * 8192 + r.val) :
    k0_pay1 (F := Ideal) (iblk m c 0 t) (iblk m c 1 t) (iblk m c 2 t) (ix2 r l) = rows m c (ix2 q l) := by
  refine (Hit.pay_apply _ _ _ r l).trans ?_
  rw [block_lower, block_upper, block_data m c t r _ q hq]
  rfl

/-- What the grid leaves in the kernel's result array. -/
theorem final (c : Dev nD) : (dats m 0 c).arrAt 3 cfg0.N = rows m c := by
  refine (dats m 0 c).arrAt_eq_of_covers 3 _ (by decide +kernel) fun t hf y => ?_
  blk_simp
  rw [after0_3]
  frame_out
  have hr : (y 0).val < 8192 := (y 0).isLt
  have hl : (y 1).val < 128 := (y 1).isLt
  have ht : t.val < 64 := t.isLt
  have ey : y = ix2 (⟨(y 0).val, hr⟩ : Fin 8192) (⟨(y 1).val, hl⟩ : Fin 128) := by
    funext a; fin_cases a <;> rfl
  have ei : ((View.whole main_v14).slice (win0_3.rect t)).emb y
      = ix2 (⟨t.val * 8192 + (y 0).val, by omega⟩ : Fin 524288) (⟨(y 1).val, hl⟩ : Fin 128) := by
    funext a
    apply Fin.ext
    fin_cases a
    · blk_simp [index3 t]
      rfl
    · blk_simp [index3 t]
      rfl
  refine Eq.trans ?_ (congrArg (rows m c) ei.symm)
  exact (congrArg (k0_pay1 (F := Ideal) (iblk m c 0 t) (iblk m c 1 t) (iblk m c 2 t)) ey).trans
    (point m c t _ _ _ rfl)

/-- The kernel's answer as mathematics: 1 where the datum lies between the bin's two thresholds, 0 elsewhere. -/
def between (x : FVec Ideal S1x1024x1024 .f32) (b : FVec Ideal S65 .f32) : FVec Ideal S1x1024x1024x64 .f32 := fun i =>
  Hit.hit (Bins.lower (Thresholds.edge b) (i 3))
    (x (ix3 0 (⟨(i 1).val, (i 1).isLt⟩ : Fin 1024) (⟨(i 2).val, (i 2).isLt⟩ : Fin 1024)))
    (Bins.upper (Thresholds.edge b) (i 3))

/-- The result array, given the shape of the answer, is the answer. -/
theorem unrolled (c : Dev nD) :
    shapeCast S1x1024x1024x64 (rows m c) shapeCasts_S524288x128_S1x1024x1024x64 = between (data m c) (edges m c) := by
  funext i
  have h1 : (i 1).val < 1024 := (i 1).isLt
  have h2 : (i 2).val < 1024 := (i 2).isLt
  have h3 : (i 3).val < 64 := (i 3).isLt
  let n := ((i 1).val * 1024 + (i 2).val) * 64 + (i 3).val
  have hn : n = ((i 1).val * 1024 + (i 2).val) * 64 + (i 3).val := rfl
  have hd : n / 128 * 128 + n % 128 = n := by omega
  refine (Thresholds.unroll_apply (rows m c) i ⟨n / 128, by omega⟩ ⟨n % 128, by omega⟩ hd).trans ?_
  have hk : (⟨n % 128 % 64, by omega⟩ : Fin 64) = ⟨(i 3).val, h3⟩ := Fin.ext (by show n % 128 % 64 = (i 3).val; omega)
  show Hit.hit (V m c main_v9 (ix2 0 (⟨n % 128, _⟩ : Fin 128)))
    (V m c main_v0 (ix2 (⟨n / 128, _⟩ : Fin 524288) (⟨n % 128 / 64, _⟩ : Fin 2)))
    (V m c main_v13 (ix2 0 (⟨n % 128, _⟩ : Fin 128))) = _
  rw [entry_lower, entry_upper, entry_data, Thresholds.twice_apply, Thresholds.twice_apply, Thresholds.lowerList_apply,
    Thresholds.upperList_apply,
    Thresholds.pairs_apply (data m c) _ _ (⟨(i 1).val, h1⟩ : Fin 1024) (⟨(i 2).val, h2⟩ : Fin 1024)
      (by show n / 128 * 2 + n % 128 / 64 = (i 1).val * 1024 + (i 2).val; omega)]
  exact congrArg (fun k => Hit.hit (Bins.lower (Thresholds.edge (edges m c)) k) _
    (Bins.upper (Thresholds.edge (edges m c)) k)) hk

end Cert.Array

end
-- ==== Proof.Assumption.lean ====
/-
  What the claim assumes of the arguments, as mathematics: where the printed predicate is one, each edge is at most the
  next and no datum is minus infinity.
-/
module

public import proofs.«01_k».proof.Proof.Thresholds
public import proofs.«01_k».proof.Proof.Gen.Pre_edges_ascend
public import Idealize.ShloMosaic.Lib.ReduceAll
public import Idealize.ShloMosaic.Lib.WordArith

@[expose] public section

noncomputable section

namespace Cert.Assumption

open Idealize.ShloMosaic Idealize.ShloMosaic.ValueIdx Cert.Pre_edges_ascend Cert.Pre_edges_ascend.Gen

/-- A result of rank zero has one index. -/
instance : Subsingleton S_.Idx := ⟨fun i j => funext fun a => a.elim0⟩

/-- A comparison of two extended reals that came out one is true. -/
theorem le_of_cmp {x y : EReal} (h : FloatOps.cmpf (F := Ideal) (φ := .f32) .ole x y = 1#1) : x ≤ y :=
  of_decide_eq_true ((WordArith.ofBool_eq_one_iff _).mp h)

/-- The same of a strict one. -/
theorem lt_of_cmp {x y : EReal} (h : FloatOps.cmpf (F := Ideal) (φ := .f32) .ogt x y = 1#1) : y < x :=
  of_decide_eq_true ((WordArith.ofBool_eq_one_iff _).mp h)

/-- Where the predicate is one, the edges ascend. -/
theorem ascend (x : FVec Ideal S1x1024x1024 .f32) (b : FVec Ideal S65 .f32) (h : fn (F := Ideal) x b = fun _ => 1#1) :
    Monotone (Thresholds.edge b) := by
  have h3 := (IntOp.andi_eq_one.mp (congrFun h ix0)).1
  refine Fin.monotone_iff_le_succ.mpr fun k => ?_
  have hk := le_of_cmp (Host.reduce_andi_all _ _ _ _ ix0 h3 (ix1 k))
  have e0 : extractStridedSlice S64 ![0] b slices_S65_S64_0 (ix1 k) = Thresholds.edge b k.castSucc :=
    extractStridedSlice_apply _ b _ (ix1 k) (ix1 k.castSucc) (fun a => by
      fin_cases a; show k.val = 0 + k.val; omega)
  have e1 : extractStridedSlice S64 ![1] b slices_S65_S64_1 (ix1 k) = Thresholds.edge b k.succ :=
    extractStridedSlice_apply _ b _ (ix1 k) (ix1 k.succ) (fun a => by
      fin_cases a; show k.val + 1 = 1 + k.val; omega)
  exact e0 ▸ e1 ▸ hk

/-- Where the predicate is one, no datum is minus infinity. -/
theorem datum_ne_bot (x : FVec Ideal S1x1024x1024 .f32) (b : FVec Ideal S65 .f32)
    (h : fn (F := Ideal) x b = fun _ => 1#1) (i : S1x1024x1024.Idx) : (x i : EReal) ≠ ⊥ := by
  have h6 := (IntOp.andi_eq_one.mp (congrFun h ix0)).2
  have hi := lt_of_cmp (Host.reduce_andi_all _ _ _ _ ix0 h6 i)
  have e : (broadcastInDim S1x1024x1024 ![] bcast_S_S1x1024x1024 (constant (F := Ideal) S_ .f32 0xFF800000#32) i : EReal)
      = ⊥ := (broadcastInDim_apply _ _ _ i ix0 (fun a => a.elim0)).trans Thresholds.neg_inf
  exact ((e.symm.trans_lt hi)).ne'

end Cert.Assumption

end
-- ==== Proof.Reference.lean ====
/-
  What the reference computes: for every datum it counts the edges below it, takes one off, clips to 0 … 63, and writes 1
  at that bin and 0 at the other 63.
-/
module

public import proofs.«01_k».proof.Proof.Thresholds
public import proofs.«01_k».proof.Proof.Gen.ReferenceIdeal.Read
public import Idealize.ShloMosaic.Lib.IndicatorCount
public import Idealize.ShloMosaic.Lib.WordArith

@[expose] public section

noncomputable section

namespace Cert.Counted

open Idealize.ShloMosaic Idealize.ShloMosaic.ValueIdx Cert.ReferenceIdeal Cert.ReferenceIdeal.Gen Cert.ReferenceIdeal.Read

/-- The summed axis dropped, as the library's reduction along one axis states it. -/
theorem reduces : S1x1024x1024x65.Reduces [3] S1x1024x1024 := by decide

/-- Edge `k` compared with datum `j`, in the array of all comparisons. -/
theorem compared (x : FVec Ideal S1x1024x1024 .f32) (b : FVec Ideal S65 .f32) (j : S1x1024x1024.Idx) (k : Fin 65) :
    val_main_v4 (F := Ideal) x b (reduces.lift j k) = BitVec.ofBool (decide (Thresholds.edge b k < x j)) := by
  have hl (a : Fin 4) : (reduces.lift j k a).val = reduces.liftVal j k.val a := rfl
  rw [val_main_v4_apply, val_main_v2_apply, val_main_v1_apply, val_main_v3_apply, val_main_v0_apply]
  have e1 : idx_main_v1 (idx_main_v2 (reduces.lift j k)) = ix1 k := by
    funext a; fin_cases a; exact Fin.ext rfl
  have e0 : idx_main_v0 (idx_main_v3 (reduces.lift j k)) = j := by
    funext a
    fin_cases a
    · exact Subsingleton.elim (α := Fin 1) _ _
    · exact Fin.ext rfl
    · exact Fin.ext rfl
  rw [e1, e0]
  rfl

/-- The reference's sum at datum `j` is the word of the number of edges below it. -/
theorem sum_apply (x : FVec Ideal S1x1024x1024 .f32) (b : FVec Ideal S65 .f32) (j : S1x1024x1024.Idx) :
    val_main_v6 (F := Ideal) x b j = BitVec.ofNat 32 (Bins.below (Thresholds.edge b) (x j)) := by
  unfold val_main_v6
  rw [Host.reduce_eq_fold_single IntOp.addi _ _ _ reduces h_S_ j]
  have e : (val_main_v5 (F := Ideal) x b ∘ reduces.lift j)
      = fun k : Fin 65 => (BitVec.ofBool (decide (Thresholds.edge b k < x j))).setWidth 32 := by
    funext k
    have h := val_main_v5_apply (F := Ideal) x b (reduces.lift j k)
    rw [compared x b j k] at h
    exact h
  rw [e]
  refine (IndicatorCount.fold_addi_setWidth_eq_card (w := 32) _ (Finset.univ : Finset (Fin 65))).trans ?_
  simp only [WordArith.ofBool_eq_one_iff, decide_eq_true_eq]
  rfl

/-- The bin of datum `j`, as a word: the count less one, clipped to 0 … 63. -/
theorem bin_apply (x : FVec Ideal S1x1024x1024 .f32) (b : FVec Ideal S65 .f32) (j : S1x1024x1024.Idx) :
    val_main_v9 (F := Ideal) x b j = BitVec.ofNat 32 (min 63 (Bins.below (Thresholds.edge b) (x j) - 1)) := by
  rw [val_main_v9_apply, val_main_call0_v2_apply, val_main_v8_apply, sum_apply, val_main_v7_apply,
    val_main_call0_v4_apply, val_main_call0_v1_apply]
  exact Bins.clip_word _ (Bins.below_le _ _)

/-- The datum an index of the result belongs to. -/
abbrev datum (i : S1x1024x1024x64.Idx) : S1x1024x1024.Idx :=
  ix3 0 (⟨(i 1).val, (i 1).isLt⟩ : Fin 1024) (⟨(i 2).val, (i 2).isLt⟩ : Fin 1024)

/-- The reference's result at an index: 1 when the datum's bin is the index's bin, 0 otherwise. -/
theorem result_apply (x : FVec Ideal S1x1024x1024 .f32) (b : FVec Ideal S65 .f32) (i : S1x1024x1024x64.Idx) :
    (val_main_v10 (F := Ideal) x b i : EReal)
      = if min 63 (Bins.below (Thresholds.edge b) (x (datum i)) - 1) = (i 3).val then 1 else 0 := by
  rw [val_main_v10_apply, val_main_call1_v4_apply, val_main_call1_v2_apply, val_main_call1_v0_apply,
    val_main_call1_v3_apply, val_main_call1_v1_apply]
  have e : idx_main_call1_v0 (idx_main_call1_v2 i) = datum i := by
    funext a; fin_cases a <;> rfl
  rw [e, bin_apply]
  have h3 : (i 3).val < 64 := (i 3).isLt
  have hd : ((BitVec.ofNat 32 (min 63 (Bins.below (Thresholds.edge b) (x (datum i)) - 1)))
      = BitVec.ofNat 32 (i 3).val) ↔ min 63 (Bins.below (Thresholds.edge b) (x (datum i)) - 1) = (i 3).val :=
    Bins.word_eq_iff (by omega) h3
  show (((BitVec.ofBool (BitVec.ofNat 32 (min 63 (Bins.below (Thresholds.edge b) (x (datum i)) - 1))
      == BitVec.ofNat 32 (i 3).val)).toNat : ℝ) : EReal) = _
  by_cases h : min 63 (Bins.below (Thresholds.edge b) (x (datum i)) - 1) = (i 3).val
  · rw [if_pos h, beq_iff_eq.mpr (hd.mpr h)]
    simp
  · rw [if_neg h, beq_eq_false_iff_ne.mpr (fun hn => h (hd.mp hn))]
    simp

end Cert.Counted

end
-- ==== Proof.Equation.lean ====
/-
  The equation: on ascending edges and data above minus infinity, a datum lies between a bin's thresholds exactly when
  that bin is the clipped count of the edges below it, so the kernel's answer is the reference's.
-/
module

public import proofs.«01_k».proof.Proof.Array
public import proofs.«01_k».proof.Proof.Assumption
public import proofs.«01_k».proof.Proof.Reference

@[expose] public section

noncomputable section

namespace Cert.Equation

open Idealize.ShloMosaic

/-- Under the assumption, the kernel's answer is the reference's. -/
theorem between_eq (x : FVec Ideal Cert.KernelIdeal.S1x1024x1024 .f32) (b : FVec Ideal Cert.KernelIdeal.S65 .f32)
    (h : Cert.Pre_edges_ascend.fn (F := Ideal) x b = fun _ => 1#1) :
    Array.between x b = Cert.ReferenceIdeal.Read.val_main_v10 (F := Ideal) x b := by
  funext i
  refine Eq.trans ?_ (Counted.result_apply x b i).symm
  have hb := Bins.between_iff (Assumption.ascend x b h) (Assumption.datum_ne_bot x b h (Counted.datum i)) (i 3)
  exact if_congr hb rfl rfl

end Cert.Equation

end
-- ==== Proof.Outcome.lean ====
/-
  The kernel's run with its result: every fair execution of the idealized program ends with the answer in the result
  buffer and both arguments as they were.
-/
module

public import proofs.«01_k».proof.Proof.Array

@[expose] public section

noncomputable section

namespace Cert.Outcome

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The reshape after the grid gives the result buffer the answer. -/
theorem result (c : Dev nD) :
    Pipeline.afterTail₀ cfgs (dats m) 0 (V0 m) [hostOps1] c main_v15 = Array.between (Array.data m c) (Array.edges m c) := by
  refine Eq.trans ?_ (Array.unrolled m c)
  have hw := Pipeline.withArrays_arr spec0 (by decide +kernel : Function.Injective (Pipeline.arrRef spec0)) c (V0 m c) (fun w => (dats m 0 c).arrAt w cfg0.N) 3
  unfold Pipeline.afterTail₀
  simp only [hostOps1, List.flatten_cons, List.flatten_nil, List.append_nil]
  after_results
  exact congrArg (fun y => shapeCast S1x1024x1024x64 y shapeCasts_S524288x128_S1x1024x1024x64)
    (hw.trans (Array.final m c))

/-- The run, its result buffer at the answer and its arguments kept. -/
theorem run : θ_run defs (onTc (τ := τ) (main (F := Ideal))) ⟨m, fun _ => 0, ρ⟩ (fun r => ∀ c : Dev nD,
    r.2.mem ((c.tc : Thread nD τ).loc main_v15) = Array.between (Array.data m c) (Array.edges m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v15 (Pipeline.mem_restRefs_of main_v15 (by decide) (by decide))).trans (result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Outcome

end
-- ==== Proof.lean ====
/-
  The certificate. The kernel tells, for every datum and every bin, whether the datum lies between the bin's two
  thresholds; the reference counts the edges below the datum and writes 1 at the clipped count less one. On ascending
  edges and data above minus infinity the two are equal (Proof/Equation.lean). What the kernel's arrays hold is in
  Proof/Array.lean, its run in Proof/Outcome.lean, what the reference computes in Proof/Reference.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_edges_ascend
public import proofs.«01_k».proof.Proof.Equation
public import proofs.«01_k».proof.Proof.Outcome
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel ends with its arguments as they were and every counter at zero. -/
theorem kernel : Cert.quiescent_Kernel := fun m g _ => Cert.Kernel.Gen.frame m g

/-- So does its reading over the extended reals; -/
theorem ideal : Cert.quiescent_KernelIdeal := fun m g _ => Cert.KernelIdeal.Gen.frame m g

/-- the same from memories that meet the precondition. -/
theorem ideal_pre : Cert.quiescent_KernelIdeal_pre_edges_ascend := fun m g _ => Cert.KernelIdeal.Gen.frame m g

/-- The reference ends with its arguments as they were and, having no counter, with none moved. -/
theorem reference_kept (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

/-- The reference's frame; -/
theorem reference : Cert.quiescent_ReferenceIdeal := fun m g _ => reference_kept m g

/-- the same from memories that meet the precondition. -/
theorem reference_pre : Cert.quiescent_ReferenceIdeal_pre_edges_ascend := fun m g _ => reference_kept m g

/-- The value claim: from memories that agree on the arguments and meet the precondition, kernel and reference end with
    equal results. -/
theorem value : Cert.algebraic_KernelIdeal_ReferenceIdeal_pre_edges_ascend := fun m g m' g' hp hm => by
  refine ⟨fun c => Cert.Array.between (Cert.Array.data m c) (Cert.Array.edges m c), Cert.Outcome.run m g,
    (θ_run Cert.ReferenceIdeal.defs _ _).mono (fun r h c => ⟨(h c).1.trans ?_, (h c).2.1, (h c).2.2⟩)
      (Cert.ReferenceIdeal.Value.run (F := Ideal) m' g')⟩
  refine (Cert.ReferenceIdeal.Read.val_main_v10_eq _ _).trans ?_
  refine Eq.trans ?_ (Cert.Equation.between_eq (Cert.Array.data m c) (Cert.Array.edges m c) (hp c)).symm
  exact congrArg₂ (Cert.ReferenceIdeal.Read.val_main_v10 (F := Ideal)) (hm c).1 (hm c).2

/-- Everything the certificate states. -/
theorem claim : Cert.Claim :=
  ⟨Cert.Kernel.Gen.facts, Cert.KernelIdeal.Gen.facts, Cert.ReferenceIdeal.Gen.facts, Cert.Pre_edges_ascend.Gen.facts,
    kernel, ideal, ideal_pre, reference, reference_pre, trivial, value⟩

end Cert.Proof

end
